-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_products_exact [hPre_products_exact : Cert.Pre_products_exact.Facts] (m : (ℓ : Loc Cert.KernelIdeal.nD Cert.KernelIdeal.τ Cert.KernelIdeal.sig) → Buf (Elt Ideal) ℓ) : Prop :=
  ∀ c : Dev Cert.KernelIdeal.nD,
    (Cert.Pre_products_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_products_exact [hPre_products_exact : Cert.Pre_products_exact.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_products_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_products_exact [hKernelIdeal : Cert.KernelIdeal.Facts] [hPre_products_exact : Cert.Pre_products_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_products_exact m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_products_exact [hReferenceIdeal : Cert.ReferenceIdeal.Facts] [hPre_products_exact : Cert.Pre_products_exact.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_products_exact m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_scale1" .f32 0x32D35DD3#32 ((1 / 40640000 : ℝ) : EReal)
  ∧ IdealRules.named_const.Statement Cert.KernelIdeal.κ "inv_scale2" .f32 0x346FACAD#32 ((1 / 4480000 : ℝ) : EReal)

def algebraic_KernelIdeal_ReferenceIdeal_pre_products_exact [hKernelIdeal : Cert.KernelIdeal.Facts] [hReferenceIdeal : Cert.ReferenceIdeal.Facts] [hPre_products_exact : Cert.Pre_products_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_products_exact m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_products_exact : Cert.Pre_products_exact.Facts),
    quiescent_Kernel (hKernel := hKernel)
    ∧ quiescent_KernelIdeal (hKernelIdeal := hKernelIdeal)
    ∧ quiescent_KernelIdeal_pre_products_exact (hKernelIdeal := hKernelIdeal) (hPre_products_exact := hPre_products_exact)
    ∧ quiescent_ReferenceIdeal (hReferenceIdeal := hReferenceIdeal)
    ∧ quiescent_ReferenceIdeal_pre_products_exact (hReferenceIdeal := hReferenceIdeal) (hPre_products_exact := hPre_products_exact)
    ∧ preserves_Kernel_KernelIdeal
    ∧ algebraic_KernelIdeal_ReferenceIdeal_pre_products_exact (hKernelIdeal := hKernelIdeal) (hReferenceIdeal := hReferenceIdeal) (hPre_products_exact := hPre_products_exact)
-- ==== Pre_products_exact.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S10000x3333 : Shape := ⟨2, ![10000, 3333]⟩
abbrev S3333 : Shape := ⟨1, ![3333]⟩
abbrev S3333x10000 : Shape := ⟨2, ![3333, 10000]⟩
abbrev S10000 : Shape := ⟨1, ![10000]⟩
abbrev S_ : Shape := ⟨0, ![]⟩

class Facts : Prop where
  bcast_S_S10000x10000 : S_.BroadcastsInDim S10000x10000 (![] : Fin 0 → Fin S10000x10000.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_clip_0 {F : FTy → Type} [FloatOps F] (arg0 : FVec F S10000x512 .f32) (arg1 : FVec F S_ .f32) (arg2 : FVec F S_ .f32) : FVec F S10000x512 .f32 :=
  let v0 : FVec F S_ .f32 := id arg1
  let v1 : FVec F S10000x512 .f32 := broadcastInDim S10000x512 ![] bcast_S_S10000x512 v0
  let v2 : FVec F S10000x512 .f32 := maximumf v1 arg0
  let v3 : FVec F S_ .f32 := id arg2
  let v4 : FVec F S10000x512 .f32 := broadcastInDim S10000x512 ![] bcast_S_S10000x512 v3
  let v5 : FVec F S10000x512 .f32 := minimumf v4 v2
  v5

def fn {F : FTy → Type} [FloatOps F] (main_arg0 : FVec F S10000x512 .f32) (main_arg1 : FVec F S10000x10000 .f32) (main_arg2 : FVec F S512x512 .f32) (main_arg3 : FVec F S512 .f32) (main_arg4 : FVec F S512x128 .f32) (main_arg5 : FVec F S128 .f32) (main_arg6 : FVec F S10000x3333 .f32) (main_arg7 : FVec F S3333 .f32) (main_arg8 : FVec F S3333x10000 .f32) (main_arg9 : FVec F S10000 .f32) : IVec S10000x512 1 :=
  let main_cst : FVec F S_ .f32 := constant S_ .f32 0x499B0780#32
  let main_v0 : FVec F S10000x10000 .f32 := broadcastInDim S10000x10000 ![] bcast_S_S10000x10000 main_cst
  let main_v1 : FVec F S10000x10000 .f32 := mulf main_arg1 main_v0
  let main_cst_0 : FVec F S_ .f32 := constant S_ .f32 0xC3000000#32
  let main_cst_1 : FVec F S_ .f32 := constant S_ .f32 0x42FE0000#32
  let main_v2 : FVec F S10000x10000 .f32 := fn_clip (F := F) main_v1 main_cst_0 main_cst_1
  let main_v3 : IVec S10000x10000 32 := fptosi 32 main_v2
  let main_v4 : FVec F S10000x10000 .f32 := sitofp .f32 main_v3
  let main_v5 : FVec F S10000x512 .f32 := (fun l r => Host.dotGeneral dot_S10000x512_S512x512_S10000x512_1_0_0_1_n_n none l r) main_arg0 main_arg2
  let main_cst_2 : FVec F S_ .f32 := constant S_ .f32 0x42000000#32
  let main_v6 : FVec F S10000x512 .f32 := broadcastInDim S10000x512 ![] bcast_S_S10000x512 main_cst_2
  let main_v7 : FVec F S10000x512 .f32 := mulf main_v5 main_v6
  let main_cst_3 : FVec F S_ .f32 := constant S_ .f32 0xC3000000#32
  let main_cst_4 : FVec F S_ .f32 := constant S_ .f32 0x42FE0000#32
  let main_v8 : FVec F S10000x512 .f32 := fn_clip_0 (F := F) main_v7 main_cst_3 main_cst_4
  let main_v9 : IVec S10000x512 32 := fptosi 32 main_v8
  let main_v10 : FVec F S10000x512 .f32 := sitofp .f32 main_v9
  let main_v11 : FVec F S10000x10000 .f32 := Host.absf main_v4
  let main_v12 : FVec F S10000x512 .f32 := Host.absf main_v10
  let main_v13 : FVec F S10000x512 .f32 := (fun l r => Host.dotGeneral dot_S10000x10000_S10000x512_S10000x512_1_0_0_1_n_n none l r) main_v11 main_v12
  let main_cst_5 : FVec F S_ .f32 := constant S_ .f32 0x4B800000#32
  let main_v14 : FVec F S10000x512 .f32 := broadcastInDim S10000x512 ![] bcast_S_S10000x512 main_cst_5
  let main_v15 : IVec S10000x512 1 := cmpf .olt main_v13 main_v14
  main_v15
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S10000x3333 : Shape := ⟨2, ![10000, 3333]⟩
abbrev S3333 : Shape := ⟨1, ![3333]⟩
abbrev S3333x10000 : Shape := ⟨2, ![3333, 10000]⟩
abbrev S10000 : Shape := ⟨1, ![10000]⟩
abbrev S1x512 : Shape := ⟨2, ![1, 512]⟩
abbrev S1x128 : Shape := ⟨2, ![1, 128]⟩
abbrev S5x2000x512 : Shape := ⟨3, ![5, 2000, 512]⟩
abbrev S2000x512 : Shape := ⟨2, ![2000, 512]⟩
abbrev S1x2000x512 : Shape := ⟨3, ![1, 2000, 512]⟩
abbrev S25x400x128 : Shape := ⟨3, ![25, 400, 128]⟩
abbrev S25x400x10000 : Shape := ⟨3, ![25, 400, 10000]⟩
abbrev S400x10000 : Shape := ⟨2, ![400, 10000]⟩
abbrev S1x400x128 : Shape := ⟨3, ![1, 400, 128]⟩
abbrev S1x400x10000 : Shape := ⟨3, ![1, 400, 10000]⟩
abbrev S400x512 : Shape := ⟨2, ![400, 512]⟩
abbrev S400x128 : Shape := ⟨2, ![400, 128]⟩
abbrev S10000x128 : Shape := ⟨2, ![10000, 128]⟩
abbrev S5x2000x10000 : Shape := ⟨3, ![5, 2000, 10000]⟩
abbrev S1x2000x10000 : Shape := ⟨3, ![1, 2000, 10000]⟩
abbrev S2000x128 : Shape := ⟨2, ![2000, 128]⟩
abbrev S2000x10000 : Shape := ⟨2, ![2000, 10000]⟩
abbrev S2000 : Shape := ⟨1, ![2000]⟩
abbrev S2000x1 : Shape := ⟨2, ![2000, 1]⟩

abbrev nBuf : Space → Nat
  | .hbm => 20
  | .vmem => 20
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S10000x3333, .f32⟩
  | .hbm, ⟨7, _⟩ => ⟨S3333, .f32⟩
  | .hbm, ⟨8, _⟩ => ⟨S3333x10000, .f32⟩
  | .hbm, ⟨9, _⟩ => ⟨S10000, .f32⟩
  | .hbm, ⟨10, _⟩ => ⟨S1x512, .f32⟩
  | .hbm, ⟨11, _⟩ => ⟨S1x128, .f32⟩
  | .hbm, ⟨12, _⟩ => ⟨S512x128, .bf16⟩
  | .hbm, ⟨13, _⟩ => ⟨S5x2000x512, .i8⟩
  | .hbm, ⟨14, _⟩ => ⟨S10000x512, .i8⟩
  | .hbm, ⟨15, _⟩ => ⟨S25x400x128, .i4⟩
  | .hbm, ⟨16, _⟩ => ⟨S25x400x10000, .i4⟩
  | .hbm, ⟨17, _⟩ => ⟨S10000x128, .i4⟩
  | .hbm, ⟨18, _⟩ => ⟨S5x2000x10000, .i4⟩
  | .hbm, ⟨19, _⟩ => ⟨S10000x128, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x2000x512, .i8⟩
  | .local _ .vmem, ⟨4, _⟩ => ⟨S1x2000x512, .i8⟩
  | .local _ .vmem, ⟨5, _⟩ => ⟨S400x10000, .f32⟩
  | .local _ .vmem, ⟨6, _⟩ => ⟨S400x10000, .f32⟩
  | .local _ .vmem, ⟨7, _⟩ => ⟨S10000x512, .i8⟩
  | .local _ .vmem, ⟨8, _⟩ => ⟨S1x512, .f32⟩
  | .local _ .vmem, ⟨9, _⟩ => ⟨S512x128, .bf16⟩
  | .local _ .vmem, ⟨10, _⟩ => ⟨S1x400x128, .i4⟩
  | .local _ .vmem, ⟨11, _⟩ => ⟨S1x400x128, .i4⟩
  | .local _ .vmem, ⟨12, _⟩ => ⟨S1x400x10000, .i4⟩
  | .local _ .vmem, ⟨13, _⟩ => ⟨S1x400x10000, .i4⟩
  | .local _ .vmem, ⟨14, _⟩ => ⟨S1x2000x10000, .i4⟩
  | .local _ .vmem, ⟨15, _⟩ => ⟨S1x2000x10000, .i4⟩
  | .local _ .vmem, ⟨16, _⟩ => ⟨S10000x128, .i4⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2000x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x400x128 .i4 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x400x10000 .i4 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x2000x10000 .i4 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .i4 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== KernelIdeal.lean ====
variable {F : FTy → Type} [FloatOps F] [Named F]
def κ : String → Option EReal := fun
  | "inv_scale1" => some ((1 / 40640000 : ℝ) : EReal)
  | "inv_scale2" => some ((1 / 4480000 : ℝ) : EReal)
  | _ => none
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S10000x3333 : Shape := ⟨2, ![10000, 3333]⟩
abbrev S3333 : Shape := ⟨1, ![3333]⟩
abbrev S3333x10000 : Shape := ⟨2, ![3333, 10000]⟩
abbrev S10000 : Shape := ⟨1, ![10000]⟩
abbrev S_ : Shape := ⟨0, ![]⟩
abbrev S1x512 : Shape := ⟨2, ![1, 512]⟩
abbrev S10000x128 : Shape := ⟨2, ![10000, 128]⟩
abbrev S1x128 : Shape := ⟨2, ![1, 128]⟩
abbrev S10000x1 : Shape := ⟨2, ![10000, 1]⟩

abbrev nBuf : Space → Nat
  | .hbm => 96
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S10000x3333, .f32⟩
  | .hbm, ⟨7, _⟩ => ⟨S3333, .f32⟩
  | .hbm, ⟨8, _⟩ => ⟨S3333x10000, .f32⟩
  | .hbm, ⟨9, _⟩ => ⟨S10000, .f32⟩
  | .hbm, ⟨10, _⟩ => ⟨S_, .f32⟩
  | .hbm, ⟨11, _⟩ => ⟨S10000x10000, .f32⟩
  | .hbm, ⟨12, _⟩ => ⟨S10000x10000, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S_, .f32⟩
  | .hbm, ⟨19, _⟩ => ⟨S10000x10000, .f32⟩
  | .hbm, ⟨20, _⟩ => ⟨S10000x10000, .f32⟩
  | .hbm, ⟨21, _⟩ => ⟨S10000x10000, .i32⟩
  | .hbm, ⟨22, _⟩ => ⟨S10000x10000, .f32⟩
  | .hbm, ⟨23, _⟩ => ⟨S10000x512, .f32⟩
  | .hbm, ⟨24, _⟩ => ⟨S_, .f32⟩
  | .hbm, ⟨25, _⟩ => ⟨S10000x512, .f32⟩
  | .hbm, ⟨26, _⟩ => ⟨S10000x512, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S10000x512, .f32⟩
  | .hbm, ⟨31, _⟩ => ⟨S10000x512, .f32⟩
  | .hbm, ⟨32, _⟩ => ⟨S_, .f32⟩
  | .hbm, ⟨33, _⟩ => ⟨S10000x512, .f32⟩
  | .hbm, ⟨34, _⟩ => ⟨S10000x512, .f32⟩
  | .hbm, ⟨35, _⟩ => ⟨S10000x512, .i32⟩
  | .hbm, ⟨36, _⟩ => ⟨S10000x512, .f32⟩
  | .hbm, ⟨37, _⟩ => ⟨S10000x512, .f32⟩
  | .hbm, ⟨38, _⟩ => ⟨S_, .f32⟩
  | .hbm, ⟨39, _⟩ => ⟨S10000x512, .f32⟩
  | .hbm, ⟨40, _⟩ => ⟨S10000x512, .f32⟩
  | .hbm, ⟨41, _⟩ => ⟨S1x512, .f32⟩
  | .hbm, ⟨42, _⟩ => ⟨S10000x512, .f32⟩
  | .hbm, ⟨43, _⟩ => ⟨S10000x512, .f32⟩
  | .hbm, ⟨44, _⟩ => ⟨S_, .f32⟩
  | .hbm, ⟨45, _⟩ => ⟨S10000x512, .f32⟩
  | .hbm, ⟨46, _⟩ => ⟨S10000x512, .f32⟩
  | .hbm, ⟨47, _⟩ => ⟨S_, .f32⟩
  | .hbm, ⟨48, _⟩ => ⟨S10000x10000, .f32⟩
  | .hbm, ⟨49, _⟩ => ⟨S10000x10000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S10000x10000, .f32⟩
  | .hbm, ⟨54, _⟩ => ⟨S10000x10000, .f32⟩
  | .hbm, ⟨55, _⟩ => ⟨S_, .f32⟩
  | .hbm, ⟨56, _⟩ => ⟨S10000x10000, .f32⟩
  | .hbm, ⟨57, _⟩ => ⟨S10000x10000, .f32⟩
  | .hbm, ⟨58, _⟩ => ⟨S10000x10000, .i32⟩
  | .hbm, ⟨59, _⟩ => ⟨S10000x10000, .f32⟩
  | .hbm, ⟨60, _⟩ => ⟨S10000x128, .f32⟩
  | .hbm, ⟨61, _⟩ => ⟨S_, .f32⟩
  | .hbm, ⟨62, _⟩ => ⟨S10000x128, .f32⟩
  | .hbm, ⟨63, _⟩ => ⟨S10000x128, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S_, .f32⟩
  | .hbm, ⟨70, _⟩ => ⟨S10000x128, .f32⟩
  | .hbm, ⟨71, _⟩ => ⟨S10000x128, .f32⟩
  | .hbm, ⟨72, _⟩ => ⟨S10000x128, .i32⟩
  | .hbm, ⟨73, _⟩ => ⟨S10000x128, .f32⟩
  | .hbm, ⟨74, _⟩ => ⟨S10000x128, .f32⟩
  | .hbm, ⟨75, _⟩ => ⟨S_, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S_, .f32⟩
  | .hbm, ⟨82, _⟩ => ⟨S10000, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S10000x1, .f32⟩
  | .hbm, ⟨87, _⟩ => ⟨S10000x128, .f32⟩
  | .hbm, ⟨88, _⟩ => ⟨S10000x128, .f32⟩
  | .hbm, ⟨89, _⟩ => ⟨S10000x128, .f32⟩
  | .hbm, ⟨90, _⟩ => ⟨S_, .f32⟩
  | .hbm, ⟨91, _⟩ => ⟨S10000, .f32⟩
  | .hbm, ⟨92, _⟩ => ⟨S10000x1, .f32⟩
  | .hbm, ⟨93, _⟩ => ⟨S10000x1, .f32⟩
  | .hbm, ⟨94, _⟩ => ⟨S10000x128, .f32⟩
  | .hbm, ⟨95, _⟩ => ⟨S10000x128, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_5 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call2_cst : Ref sig .tc := ⟨.hbm, 44, rfl⟩
abbrev main_call2_v0 : Ref sig .tc := ⟨.hbm, 45, rfl⟩
abbrev main_v17 : Ref sig .tc := ⟨.hbm, 46, rfl⟩
abbrev main_cst_6 : Ref sig .tc := ⟨.hbm, 47, rfl⟩
abbrev main_v18 : Ref sig .tc := ⟨.hbm, 48, rfl⟩
abbrev main_v19 : Ref sig .tc := ⟨.hbm, 49, rfl⟩
abbrev main_cst_7 : Ref sig .tc := ⟨.hbm, 50, rfl⟩
abbrev main_cst_8 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_9 : Ref sig .tc := ⟨.hbm, 61, rfl⟩
abbrev main_v24 : Ref sig .tc := ⟨.hbm, 62, rfl⟩
abbrev main_v25 : Ref sig .tc := ⟨.hbm, 63, rfl⟩
abbrev main_cst_10 : Ref sig .tc := ⟨.hbm, 64, rfl⟩
abbrev main_cst_11 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_12 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_call5_cst : Ref sig .tc := ⟨.hbm, 81, rfl⟩
abbrev main_call5_v0 : Ref sig .tc := ⟨.hbm, 82, rfl⟩
abbrev main_call5_cst_0 : Ref sig .tc := ⟨.hbm, 83, rfl⟩
abbrev main_call5_v1 : Ref sig .tc := ⟨.hbm, 84, rfl⟩
abbrev main_call5_v2 : Ref sig .tc := ⟨.hbm, 85, rfl⟩
abbrev main_call5_v3 : Ref sig .tc := ⟨.hbm, 86, rfl⟩
abbrev main_call5_v4 : Ref sig .tc := ⟨.hbm, 87, rfl⟩
abbrev main_call5_v5 : Ref sig .tc := ⟨.hbm, 88, rfl⟩
abbrev main_call5_v6 : Ref sig .tc := ⟨.hbm, 89, rfl⟩
abbrev main_call5_cst_1 : Ref sig .tc := ⟨.hbm, 90, rfl⟩
abbrev main_call5_v7 : Ref sig .tc := ⟨.hbm, 91, rfl⟩
abbrev main_call5_v8 : Ref sig .tc := ⟨.hbm, 92, rfl⟩
abbrev main_call5_v9 : Ref sig .tc := ⟨.hbm, 93, rfl⟩
abbrev main_call5_v10 : Ref sig .tc := ⟨.hbm, 94, rfl⟩
abbrev main_v35 : Ref sig .tc := ⟨.hbm, 95, rfl⟩

abbrev nD : Nat := 1
abbrev τ : Topo := Topo.v7x

variable {F : FTy → Type} [FloatOps F]
-- ==== Proof.KernelRun.lean ====
/- The kernel's run, with its result named: the launch ends with `main_v8` at what the last region leaves there and
   with every argument array as launched. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the result array at the last boundary's contents and the arguments unchanged. -/
theorem run : θ_run defs (onTc (τ := τ) (main (F := F))) ⟨m, fun _ => 0, ρ⟩ (fun r => ∀ c : Dev nD,
      r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v8 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Hand

end
-- ==== Proof.Codes.lean ====
/- Integer codes at the ideal values: what a float-to-integer conversion gives as a signed integer, why clipping first
   changes nothing, and sums of products of codes read as extended reals. -/
module

public import Idealize.ShloMosaic.Lib.Pipeline.ValueKit
public import Idealize.ShloMosaic.Lib.IntMxu
public import Idealize.ShloMosaic.PureOps.Ideal.Laws

@[expose] public section

noncomputable section

open scoped BigOperators

namespace Cert.Codes

open Idealize.ShloMosaic

/-- The integer code of an extended real: rounded toward zero and held to `[lo, hi]`. -/
def code (lo hi : ℤ) (v : EReal) : ℤ := Ideal.toIntClamped lo hi v

/-- A real number rounded toward zero. -/
def trunc (r : ℝ) : ℤ := if 0 ≤ r then ⌊r⌋ else ⌈r⌉

theorem code_coe (lo hi : ℤ) (r : ℝ) : code lo hi (r : EReal) = max lo (min hi (trunc r)) := rfl
theorem code_bot (lo hi : ℤ) : code lo hi ⊥ = lo := rfl
theorem code_top (lo hi : ℤ) : code lo hi ⊤ = hi := rfl

theorem trunc_int (n : ℤ) : trunc (n : ℝ) = n := by
  unfold trunc; split <;> simp

theorem trunc_mono {r s : ℝ} (h : r ≤ s) : trunc r ≤ trunc s := by
  unfold trunc
  split
  · rw [if_pos (by linarith)]; exact Int.floor_le_floor h
  · split
    · exact (Int.ceil_le.2 (by push_cast; linarith)).trans (Int.floor_nonneg.2 (by assumption))
    · exact Int.ceil_le_ceil h

/-- A code lies within its bounds. -/
theorem code_mem {lo hi : ℤ} (h : lo ≤ hi) (v : EReal) : lo ≤ code lo hi v ∧ code lo hi v ≤ hi := by
  induction v with
  | bot => rw [code_bot]; omega
  | top => rw [code_top]; omega
  | coe r => rw [code_coe]; omega

/-- Clipping to whole bounds before taking a code of wider bounds gives the code of those bounds. -/
theorem code_clip {L H lo hi : ℤ} (hL : L ≤ lo) (hH : hi ≤ H) (h : lo ≤ hi) (v : EReal) :
    code L H (min ((hi : ℝ) : EReal) (max ((lo : ℝ) : EReal) v)) = code lo hi v := by
  have hle : ((lo : ℝ) : EReal) ≤ ((hi : ℝ) : EReal) := EReal.coe_le_coe_iff.2 (by exact_mod_cast h)
  induction v with
  | bot => rw [max_eq_left bot_le, min_eq_right hle, code_coe, trunc_int, code_bot]; omega
  | top => rw [max_eq_right le_top, min_eq_left le_top, code_coe, trunc_int, code_top]; omega
  | coe r =>
    rw [code_coe]
    rcases le_total (lo : ℝ) r with h1 | h1
    · rw [max_eq_right (EReal.coe_le_coe_iff.2 h1)]
      have t1 := trunc_mono h1
      rw [trunc_int] at t1
      rcases le_total (hi : ℝ) r with h2 | h2
      · have t2 := trunc_mono h2
        rw [trunc_int] at t2
        rw [min_eq_left (EReal.coe_le_coe_iff.2 h2), code_coe, trunc_int]; omega
      · have t2 := trunc_mono h2
        rw [trunc_int] at t2
        rw [min_eq_right (EReal.coe_le_coe_iff.2 h2), code_coe]; omega
    · have t1 := trunc_mono h1
      rw [trunc_int] at t1
      rw [max_eq_left (EReal.coe_le_coe_iff.2 h1), min_eq_right hle, code_coe, trunc_int]; omega

/-- The 8-bit word a float converts to reads as the code in [-128, 127] … -/
theorem toInt_fptosi8 (v : EReal) : (Ideal.fptosi 8 v).toInt = code (-128) 127 v := by
  have h := code_mem (lo := -128) (hi := 127) (by decide) v
  have e : Ideal.fptosi 8 v = BitVec.ofInt 8 (code (-128) 127 v) := rfl
  rw [e, BitVec.toInt_ofInt]
  exact Int.bmod_eq_of_le (by simp; omega) (by simp; omega)

/-- … the 4-bit word as the code in [-8, 7] … -/
theorem toInt_fptosi4 (v : EReal) : (Ideal.fptosi 4 v).toInt = code (-8) 7 v := by
  have h := code_mem (lo := -8) (hi := 7) (by decide) v
  have e : Ideal.fptosi 4 v = BitVec.ofInt 4 (code (-8) 7 v) := rfl
  rw [e, BitVec.toInt_ofInt]
  exact Int.bmod_eq_of_le (by simp; omega) (by simp; omega)

/-- … and the 32-bit word as the code in [-2^31, 2^31 - 1]. -/
theorem toInt_fptosi32 (v : EReal) : (Ideal.fptosi 32 v).toInt = code (-2147483648) 2147483647 v := by
  have h := code_mem (lo := -2147483648) (hi := 2147483647) (by decide) v
  have e : Ideal.fptosi 32 v = BitVec.ofInt 32 (code (-2147483648) 2147483647 v) := rfl
  rw [e, BitVec.toInt_ofInt]
  exact Int.bmod_eq_of_le (by simp; omega) (by simp; omega)

/-- An integer as an extended real. -/
def asE (n : ℤ) : EReal := ((n : ℝ) : EReal)

theorem asE_mul (a b : ℤ) : asE (a * b) = asE a * asE b := by
  unfold asE; push_cast; rfl

theorem asE_sum {ι : Type} (s : Finset ι) (f : ι → ℤ) : asE (∑ i ∈ s, f i) = ∑ i ∈ s, asE (f i) := by
  classical
  induction s using Finset.induction_on with
  | empty => simp [asE]
  | insert a s ha ih =>
    rw [Finset.sum_insert ha, Finset.sum_insert ha, ← ih]
    unfold asE; push_cast; rfl

/-- The magnitude of an integer, as the reference takes it. -/
theorem asE_abs (n : ℤ) : max (asE n) (-asE n) = asE (n.natAbs : ℤ) := by
  unfold asE
  rw [← EReal.coe_neg, ← EReal.coe_strictMono.monotone.map_max]
  congr 1
  rw [Int.natCast_natAbs, Int.cast_abs]
  rfl

theorem asE_lt {a b : ℤ} : asE a < asE b ↔ a < b := by
  unfold asE; rw [EReal.coe_lt_coe_iff]; exact_mod_cast Iff.rfl

/-- A product with a reciprocal is the quotient. -/
theorem asE_mul_inv (n : ℤ) {q : ℝ} (hq : 0 < q) : asE n * ((1 / q : ℝ) : EReal) = Ideal.div (asE n) (q : EReal) := by
  unfold Ideal.div
  rw [if_neg (by exact_mod_cast hq.ne'), one_div, EReal.coe_inv]

/-- The integer product of 8-bit operands into a zero accumulator, at a result index whose products' magnitudes total
    less than 2^24: the exact sum over the one contracted axis, `L` and `R` naming the operands' indices. -/
theorem matmulI8_sum {sl sr so : Shape} (d : DotDims sl sr so) {a : Fin sl.rank} (hc : d.lhsContracting = [a]) {K : Nat}
    (hK : sl.size a = K) (lhs : IVec sl 8) (rhs : IVec sr 8) (acc : IVec so 32) (j : so.Idx) (h0 : acc j = 0)
    (L : Fin K → sl.Idx) (R : Fin K → sr.Idx)
    (hL : ∀ k, Shape.Idx.norm (d.lhsIdx j (d.contrIdx₁ hc hK k)) = L k)
    (hR : ∀ k, Shape.Idx.norm (d.rhsIdx j (d.contrIdx₁ hc hK k)) = R k)
    (hS : ∑ k, ((lhs (L k)).toInt * (rhs (R k)).toInt).natAbs < 2 ^ 24) :
    (matmulI8 IntMxuNumerics.v7x d lhs rhs acc j).toInt = ∑ k, (lhs (L k)).toInt * (rhs (R k)).toInt := by
  have hL' : ∀ k, d.lhsIdx j (d.contrIdx₁ hc hK k) = L k := hL
  have hR' : ∀ k, d.rhsIdx j (d.contrIdx₁ hc hK k) = R k := hR
  have e : absDotI8 d lhs rhs j = ∑ k, ((lhs (L k)).toInt * (rhs (R k)).toInt).natAbs := by
    unfold absDotI8
    rw [d.sum_contr₁ hc hK]
    exact Finset.sum_congr rfl fun k _ => by rw [hL' k, hR' k]
  rw [matmulI8_toInt _ d lhs rhs acc j h0 (by rw [e]; exact Nat.le_sub_one_of_lt hS)]
  unfold dotI8
  rw [d.sum_contr₁ hc hK]
  exact Finset.sum_congr rfl fun k _ => by rw [hL' k, hR' k]

/-- A value clipped to whole bounds (given by their bits), converted to a 32-bit integer and back: its code. -/
theorem quantised {lo hi : ℤ} {L H : BitVec 32} (eL : Ideal.ofBits .f32 L = ((lo : ℝ) : EReal)) (eH : Ideal.ofBits .f32 H = ((hi : ℝ) : EReal))
    (hL : -2147483648 ≤ lo) (hH : hi ≤ 2147483647) (h : lo ≤ hi) (v : EReal) :
    asE (Ideal.fptosi 32 (min (Ideal.ofBits .f32 H) (max (Ideal.ofBits .f32 L) v))).toInt = asE (code lo hi v) := by
  rw [eL, eH, toInt_fptosi32, code_clip hL hH h]

/-! The constants of the two programs that are read as numbers. -/

theorem bits_neg128 : Ideal.ofBits .f32 0xC3000000#32 = (((-128 : ℤ) : ℝ) : EReal) := by
  simp [Ideal.ofBits, Ideal.ieee, -EReal.coe_mul]; norm_num
theorem bits_127 : Ideal.ofBits .f32 0x42FE0000#32 = (((127 : ℤ) : ℝ) : EReal) := by
  simp [Ideal.ofBits, Ideal.ieee, -EReal.coe_mul]; norm_num
theorem bits_neg8 : Ideal.ofBits .f32 0xC1000000#32 = (((-8 : ℤ) : ℝ) : EReal) := by
  simp [Ideal.ofBits, Ideal.ieee, -EReal.coe_mul]; norm_num
theorem bits_neg7 : Ideal.ofBits .f32 0xC0E00000#32 = (((-7 : ℤ) : ℝ) : EReal) := by
  simp [Ideal.ofBits, Ideal.ieee, -EReal.coe_mul]; norm_num
theorem bits_7 : Ideal.ofBits .f32 0x40E00000#32 = (((7 : ℤ) : ℝ) : EReal) := by
  simp [Ideal.ofBits, Ideal.ieee, -EReal.coe_mul]; norm_num
theorem bits_40640000 : Ideal.ofBits .f32 0x4C1B0780#32 = ((40640000 : ℝ) : EReal) := by
  simp [Ideal.ofBits, Ideal.ieee, -EReal.coe_mul]; norm_num
theorem bits_4480000 : Ideal.ofBits .f32 0x4A88B800#32 = ((4480000 : ℝ) : EReal) := by
  simp [Ideal.ofBits, Ideal.ieee, -EReal.coe_mul]; norm_num
theorem bits_2p24 : Ideal.ofBits .f32 0x4B800000#32 = (((2 ^ 24 : ℤ) : ℝ) : EReal) := by
  simp [Ideal.ofBits, Ideal.ieee, -EReal.coe_mul]; norm_num
theorem bits_neg_inf : Ideal.ofBits .f32 0xFF800000#32 = ⊥ := by
  simp [Ideal.ofBits, Ideal.ieee]

end Cert.Codes

end
-- ==== Proof.Spec.lean ====
/- The network as plain mathematics over the six arrays it reads: two layers, each a product of integer codes, and the
   log-softmax of a row. Both programs are shown to compute these. -/
module

public import proofs.«01_k».proof.Proof.Codes

@[expose] public section

noncomputable section

open scoped BigOperators

namespace Cert.Net

open Idealize.ShloMosaic Cert.Codes

/-- A matrix, and a vector, of extended reals. -/
abbrev Mat (a b : Nat) : Type := (⟨2, ![a, b]⟩ : Shape).Idx → EReal
abbrev Row (a : Nat) : Type := (⟨1, ![a]⟩ : Shape).Idx → EReal

variable (X : Mat 10000 512) (A : Mat 10000 10000) (W : Mat 512 512) (b : Row 512) (U : Mat 512 128) (d : Row 128)

/-- The scaled features of node `j`: `(x w) * 32`, before they are coded. -/
def feat (j : Fin 10000) (k : Fin 512) : EReal :=
  (∑ i : Fin 512, X (ix2 j i) * W (ix2 i k)) * Ideal.ofBits .f32 0x42000000#32

/-- Their codes. -/
def featCode (j : Fin 10000) (k : Fin 512) : ℤ := code (-128) 127 (feat X W j k)

/-- Layer 1's codes of the adjacency matrix, scaled by 1270000 … -/
def adj1 (r j : Fin 10000) : ℤ := code (-128) 127 (A (ix2 r j) * Ideal.ofBits .f32 0x499B0780#32)

/-- … and layer 2's, scaled by 70000. -/
def adj2 (r j : Fin 10000) : ℤ := code (-8) 7 (A (ix2 r j) * Ideal.ofBits .f32 0x4788B800#32)

/-- Layer 1's integer product. -/
def prod1 (r : Fin 10000) (k : Fin 512) : ℤ := ∑ j : Fin 10000, adj1 A r j * featCode X W j k

/-- The sum of the magnitudes of the products in it. -/
def mag1 (r : Fin 10000) (k : Fin 512) : ℕ := ∑ j : Fin 10000, (adj1 A r j * featCode X W j k).natAbs

/-- Layer 1's output. -/
def hidden (r : Fin 10000) (k : Fin 512) : EReal :=
  max (asE (prod1 X A W r k) * ((1 / 40640000 : ℝ) : EReal) + b (ix1 k)) 0

/-- Layer 2's scaled features, `(h u) * 64`, before they are coded … -/
def feat2 (r : Fin 10000) (l : Fin 128) : EReal :=
  (∑ k : Fin 512, hidden X A W b r k * U (ix2 k l)) * Ideal.ofBits .f32 0x42800000#32

/-- … and their codes. -/
def featCode2 (r : Fin 10000) (l : Fin 128) : ℤ := code (-7) 7 (feat2 X A W b U r l)

/-- Layer 2's integer product. -/
def prod2 (r : Fin 10000) (l : Fin 128) : ℤ := ∑ j : Fin 10000, adj2 A r j * featCode2 X A W b U j l

/-- Layer 2's output: the class scores of node `r`. -/
def score (r : Fin 10000) (l : Fin 128) : EReal :=
  asE (prod2 X A W b U r l) * ((1 / 4480000 : ℝ) : EReal) + d (ix1 l)

/-- A row's greatest entry. -/
def top (v : Fin 128 → EReal) : EReal :=
  (Finset.univ : Finset (Fin 128)).fold max (Ideal.ofBits .f32 0xFF800000#32) v

/-- The log-softmax of a row. -/
def logSoftmax (v : Fin 128 → EReal) (l : Fin 128) : EReal :=
  (v l - top v) - Ideal.log (∑ k : Fin 128, Ideal.exp (v k - top v))

end Cert.Net

end
-- ==== Proof.Region0.lean ====
/- The first call: each block codes 2000 nodes' scaled features; the array holds every node's. -/
module

public import proofs.«01_k».proof.Proof.Gen.KernelIdeal.Frame
public import proofs.«01_k».proof.Proof.Spec

@[expose] public section

set_option maxRecDepth 16384

noncomputable section

namespace Cert.KernelIdeal.Hand

open Cert.KernelIdeal Cert.KernelIdeal.Gen Cert.Codes
open Idealize.ShloMosaic Idealize.ShloMosaic.TcCoe

/-- What one block computes. -/
theorem pay0 (x : Vec Ideal S2000x512 .f32) (w : Vec Ideal S512x512 .f32) (j : S1x2000x512.Idx) :
    k0_pay1 (F := Ideal) x w j
      = Ideal.fptosi 8 ((∑ i : Fin 512, x (ix2 (j 1) i) * w (ix2 i (j 2))) * Ideal.ofBits .f32 0x42000000#32) := by
  pointwise [k0_pay1]
  rfl

variable (V : (c : Dev nD) → (b : Ref sig .tc) → Buf (Elt Ideal) ((c.tc : Thread nD τ).loc b))

theorem idx0 : ∀ t : Fin cfg0.N, win0_0.index t = ![t.val, 0] ∧ win0_1.index t = ![0, 0] ∧ win0_2.index t = ![t.val, 0, 0] :=
  (by decide +kernel : ∀ t : Fin grid0.N, _)

/-- The row of the whole matrix that row `j` of block `a` is. -/
def row0 (a : Fin 5) (j : Fin 2000) : Fin 10000 := ⟨a.val * 2000 + j.val, by omega⟩

theorem arr0 (c : Dev nD) :
    (dat0 (F := Ideal) V c).arrAt 2 cfg0.N
      = fun i : S5x2000x512.Idx => Ideal.fptosi 8 (Cert.Net.feat (V c main_arg0) (V c main_arg2) (row0 (i 0) (i 1)) (i 2)) := by
  refine (dat0 (F := Ideal) V c).arrAt_eq_of_covers 2 _ (by decide +kernel) fun t hf y => ?_
  blk_simp
  rw [after0_2]
  frame_out
  rw [pay0]
  obtain ⟨h0, h1, h2⟩ := idx0 t
  unfold Cert.Net.feat row0
  blk_point [iblk0, h0, h1, h2]

end Cert.KernelIdeal.Hand

end
-- ==== Proof.Block1.lean ====
/- What one block of the second call computes: layer 1 of 400 nodes, and their codes of the adjacency matrix. -/
module

public import proofs.«01_k».proof.Proof.Gen.KernelIdeal.Frame
public import proofs.«01_k».proof.Proof.Spec

@[expose] public section

set_option maxRecDepth 16384

noncomputable section

namespace Cert.KernelIdeal.Hand

open Cert.KernelIdeal Cert.KernelIdeal.Gen Cert.Codes
open Idealize.ShloMosaic Idealize.ShloMosaic.TcCoe

/-- Layer 1's integer product in a block, at row `r` and column `k`: exact where its magnitudes total less than 2^24. -/
theorem dot1 (a : IVec S400x10000 8) (s : IVec S10000x512 8) (r : Fin 400) (k : Fin 512)
    (h : ∑ i : Fin 10000, ((a (ix2 r i)).toInt * (s (ix2 i k)).toInt).natAbs < 2 ^ 24) :
    (matmulI8 IntMxuNumerics.v7x dot_S400x10000_S10000x512_S400x512_1_0_0_1_n_n a s (constantI S400x512 32 0#32) (ix2 r k)).toInt
      = ∑ i : Fin 10000, (a (ix2 r i)).toInt * (s (ix2 i k)).toInt :=
  matmulI8_sum (a := (1 : Fin 2)) (K := 10000) _ rfl rfl a s _ _ rfl (fun i => ix2 r i) (fun i => ix2 i k)
    (fun i => by pointwise) (fun i => by pointwise) h

/-- … and of the codes of an array of floats. -/
theorem dot1_codes (a : Vec Ideal S400x10000 .f32) (s : IVec S10000x512 8) (r : Fin 400) (k : Fin 512)
    (h : ∑ i : Fin 10000, (code (-128) 127 (a (ix2 r i) * Ideal.ofBits .f32 0x499B0780#32)
      * (s (ix2 i k)).toInt).natAbs < 2 ^ 24) :
    (matmulI8 IntMxuNumerics.v7x dot_S400x10000_S10000x512_S400x512_1_0_0_1_n_n
        (fptosi (F := Ideal) (φ := .f32) 8 (mulf a (broadcast S400x10000 (Ideal.ofBits .f32 0x499B0780#32)))) s
        (constantI S400x512 32 0#32) (ix2 r k)).toInt
      = ∑ i : Fin 10000, code (-128) 127 (a (ix2 r i) * Ideal.ofBits .f32 0x499B0780#32) * (s (ix2 i k)).toInt := by
  have hc : ∀ i, (fptosi (F := Ideal) (φ := .f32) 8 (mulf a (broadcast S400x10000 (Ideal.ofBits .f32 0x499B0780#32))) (ix2 r i)).toInt
      = code (-128) 127 (a (ix2 r i) * Ideal.ofBits .f32 0x499B0780#32) := fun i => toInt_fptosi8 _
  have hd := dot1 (fptosi (F := Ideal) (φ := .f32) 8 (mulf a (broadcast S400x10000 (Ideal.ofBits .f32 0x499B0780#32)))) s r k
    (by simp only [hc]; exact h)
  simp only [hc] at hd
  exact hd

/-- The 4-bit codes of the block's rows of the adjacency matrix. -/
theorem pay1_adj (a : Vec Ideal S400x10000 .f32) (j : S1x400x10000.Idx) :
    k1_pay2 (F := Ideal) a j = Ideal.fptosi 4 (a (ix2 (j 1) (j 2)) * Ideal.ofBits .f32 0x4788B800#32) := by
  pointwise [k1_pay2]
  rfl

/-- The 4-bit codes of layer 2's features of the block's rows, where layer 1's product is exact. -/
theorem pay1_feat (a : Vec Ideal S400x10000 .f32) (s : Vec Ideal S10000x512 .i8) (b : Vec Ideal S1x512 .f32)
    (u : Vec Ideal S512x128 .bf16) (j : S1x400x128.Idx)
    (h : ∀ k : Fin 512, ∑ i : Fin 10000, (code (-128) 127 (a (ix2 (j 1) i) * Ideal.ofBits .f32 0x499B0780#32)
      * (s (ix2 i k)).toInt).natAbs < 2 ^ 24) :
    k1_pay1 (k1_pay3 (F := Ideal) a s b u) j
      = Ideal.fptosi 4 (min (Ideal.ofBits .f32 0x40E00000#32) (max (Ideal.ofBits .f32 0xC0E00000#32)
          ((∑ k : Fin 512,
            max (asE (∑ i : Fin 10000, code (-128) 127 (a (ix2 (j 1) i) * Ideal.ofBits .f32 0x499B0780#32) * (s (ix2 i k)).toInt)
                  * ((1 / 40640000 : ℝ) : EReal) + b (ix2 0 k)) 0
              * u (ix2 k (j 2))) * Ideal.ofBits .f32 0x42800000#32))) := by
  have hd := fun k => dot1_codes a s (j 1) k (h k)
  pointwise [k1_pay1, k1_pay3]
  have hn : (Named.named κ "inv_scale1" 0x32D35DD3#32 : Ideal .f32) = ((1 / 40640000 : ℝ) : EReal) :=
    IdealRules.named_const.ideal_named_scalar _ _ _ _ rfl
  rw [hn]
  refine congrArg (fun v => Ideal.fptosi 4 (min _ (max _ (v * _)))) (Finset.sum_congr rfl fun k _ => ?_)
  rw [← hd k]
  rfl

end Cert.KernelIdeal.Hand

end
-- ==== Proof.Region1.lean ====
/- The second call: its two arrays hold every node's layer 2 feature codes and every 4-bit code of the adjacency matrix. -/
module

public import proofs.«01_k».proof.Proof.Block1

@[expose] public section

set_option maxRecDepth 16384

noncomputable section

namespace Cert.KernelIdeal.Hand

open Cert.KernelIdeal Cert.KernelIdeal.Gen Cert.Codes
open Idealize.ShloMosaic Idealize.ShloMosaic.TcCoe

variable (V : (c : Dev nD) → (b : Ref sig .tc) → Buf (Elt Ideal) ((c.tc : Thread nD τ).loc b))

theorem idx1 : ∀ t : Fin cfg1.N, win1_0.index t = ![t.val, 0] ∧ win1_1.index t = ![0, 0] ∧ win1_2.index t = ![0, 0]
    ∧ win1_3.index t = ![0, 0] ∧ win1_4.index t = ![t.val, 0, 0] ∧ win1_5.index t = ![t.val, 0, 0] :=
  (by decide +kernel : ∀ t : Fin grid1.N, _)

/-- The row of the whole matrix that row `j` of block `a` is. -/
def row1 (a : Fin 25) (j : Fin 400) : Fin 10000 := ⟨a.val * 400 + j.val, by omega⟩

/-- The scaled entries of the adjacency matrix, before they are coded in 4 bits. -/
def scaled4 (A : Vec Ideal S10000x10000 .f32) (r j : Fin 10000) : EReal := A (ix2 r j) * Ideal.ofBits .f32 0x4788B800#32

theorem arr1_adj (c : Dev nD) :
    (dat1 (F := Ideal) V c).arrAt 5 cfg1.N
      = fun i : S25x400x10000.Idx => Ideal.fptosi 4 (scaled4 (V c main_arg1) (row1 (i 0) (i 1)) (i 2)) := by
  refine (dat1 (F := Ideal) V c).arrAt_eq_of_covers 5 _ (by decide +kernel) fun t hf y => ?_
  blk_simp
  rw [after1_5]
  frame_out
  rw [pay1_adj]
  obtain ⟨h0, h1, h2, h3, h4, h5⟩ := idx1 t
  unfold scaled4 row1
  blk_point [iblk1, h0, h1, h2, h3, h4, h5]

/-- Layer 2's scaled features of node `r`, from the arrays the call reads. -/
def feat1 (A : Vec Ideal S10000x10000 .f32) (s : IVec S10000x512 8) (b : Vec Ideal S1x512 .f32) (u : Vec Ideal S512x128 .bf16)
    (r : Fin 10000) (l : Fin 128) : EReal :=
  (∑ k : Fin 512,
    max (asE (∑ i : Fin 10000, code (-128) 127 (A (ix2 r i) * Ideal.ofBits .f32 0x499B0780#32) * (s (ix2 i k)).toInt)
          * ((1 / 40640000 : ℝ) : EReal) + b (ix2 0 k)) 0
      * u (ix2 k l)) * Ideal.ofBits .f32 0x42800000#32

/-- The magnitudes of the products in an entry of layer 1's integer product, totalled. -/
def total1 (A : Vec Ideal S10000x10000 .f32) (s : IVec S10000x512 8) (r : Fin 10000) (k : Fin 512) : ℕ :=
  ∑ i : Fin 10000, (code (-128) 127 (A (ix2 r i) * Ideal.ofBits .f32 0x499B0780#32) * (s (ix2 i k)).toInt).natAbs

theorem arr1_feat (c : Dev nD)
    (h : ∀ (r : Fin 10000) (k : Fin 512), total1 (V c main_arg1) (V c main_v4) r k < 2 ^ 24) :
    (dat1 (F := Ideal) V c).arrAt 4 cfg1.N
      = fun i : S25x400x128.Idx => Ideal.fptosi 4 (min (Ideal.ofBits .f32 0x40E00000#32) (max (Ideal.ofBits .f32 0xC0E00000#32)
          (feat1 (V c main_arg1) (V c main_v4) (V c main_v0) (V c main_v2) (row1 (i 0) (i 1)) (i 2)))) := by
  refine (dat1 (F := Ideal) V c).arrAt_eq_of_covers 4 _ (by decide +kernel) fun t hf y => ?_
  blk_simp
  rw [after1_4]
  frame_out
  obtain ⟨h0, h1, h2, h3, h4, h5⟩ := idx1 t
  rw [pay1_feat]
  · unfold feat1 row1
    blk_point [iblk1, h0, h1, h2, h3, h4, h5]
  · intro k
    refine lt_of_eq_of_lt ?_ (h (row1 ⟨t.val, t.isLt⟩ (y 1)) k)
    unfold total1 row1
    blk_point [iblk1, h0, h1, h2, h3, h4, h5]

end Cert.KernelIdeal.Hand

end
-- ==== Proof.Block2.lean ====
/- What one block of the third call computes: layer 2 of 2000 nodes and the log-softmax of each of their rows. -/
module

public import proofs.«01_k».proof.Proof.Gen.KernelIdeal.Frame
public import proofs.«01_k».proof.Proof.Spec

@[expose] public section

set_option maxRecDepth 16384

noncomputable section

namespace Cert.KernelIdeal.Hand

open Cert.KernelIdeal Cert.KernelIdeal.Gen Cert.Codes
open Idealize.ShloMosaic Idealize.ShloMosaic.TcCoe

/-- The product of two 4-bit integers has magnitude at most 64. -/
theorem nibbles_le (x y : BitVec 4) : (x.toInt * y.toInt).natAbs ≤ 64 := by
  have hx := BitVec.toInt_lt (x := x)
  have hx' := BitVec.le_toInt x
  have hy := BitVec.toInt_lt (x := y)
  have hy' := BitVec.le_toInt y
  rw [Int.natAbs_mul]
  exact Nat.mul_le_mul (n₁ := x.toInt.natAbs) (n₂ := 8) (m₁ := y.toInt.natAbs) (m₂ := 8) (by omega) (by omega)

/-- Layer 2's integer product in a block: the operands have 4 bits, so it is always exact. -/
theorem dot2 (a : IVec S2000x10000 4) (s : IVec S10000x128 4) (r : Fin 2000) (l : Fin 128) :
    (matmulI8 IntMxuNumerics.v7x dot_S2000x10000_S10000x128_S2000x128_1_0_0_1_n_n (extsi 8 a natLt_4_8) (extsi 8 s natLt_4_8)
        (constantI S2000x128 32 0#32) (ix2 r l)).toInt
      = ∑ i : Fin 10000, (a (ix2 r i)).toInt * (s (ix2 i l)).toInt := by
  have ha : ∀ i, (extsi 8 a natLt_4_8 (ix2 r i)).toInt = (a (ix2 r i)).toInt := fun i =>
    BitVec.toInt_signExtend_of_le (by decide)
  have hs : ∀ i, (extsi 8 s natLt_4_8 (ix2 i l)).toInt = (s (ix2 i l)).toInt := fun i =>
    BitVec.toInt_signExtend_of_le (by decide)
  have h := matmulI8_sum (a := (1 : Fin 2)) (K := 10000) dot_S2000x10000_S10000x128_S2000x128_1_0_0_1_n_n rfl rfl
    (extsi 8 a natLt_4_8) (extsi 8 s natLt_4_8) (constantI S2000x128 32 0#32) (ix2 r l) rfl (fun i => ix2 r i) (fun i => ix2 i l)
    (fun i => by pointwise) (fun i => by pointwise)
  simp only [ha, hs] at h
  refine h ((Finset.sum_le_card_nsmul _ _ 64 fun i _ => nibbles_le _ _).trans_lt ?_)
  rw [Finset.card_univ, Fintype.card_fin]
  norm_num

/-- The scores of row `r` of a block. -/
def score2 (a : Vec Ideal S1x2000x10000 .i4) (s : Vec Ideal S10000x128 .i4) (b : Vec Ideal S1x128 .f32) (r : Fin 2000) (l : Fin 128) :
    EReal :=
  asE (∑ i : Fin 10000, BitVec.toInt (a (ix3 0 r i)) * BitVec.toInt (s (ix2 i l))) * ((1 / 4480000 : ℝ) : EReal) + b (ix2 0 l)

/-- What one block computes. -/
theorem pay2 (a : Vec Ideal S1x2000x10000 .i4) (s : Vec Ideal S10000x128 .i4) (b : Vec Ideal S1x128 .f32) (r : Fin 2000) (l : Fin 128) :
    k2_pay1 (F := Ideal) a s b (ix2 r l) = Cert.Net.logSoftmax (score2 a s b r) l := by
  have hn : (Named.named κ "inv_scale2" 0x346FACAD#32 : Ideal .f32) = ((1 / 4480000 : ℝ) : EReal) :=
    IdealRules.named_const.ideal_named_scalar _ _ _ _ rfl
  have ha : ∀ i, shapeCast S2000x10000 a shapeCasts_S1x2000x10000_S2000x10000 (ix2 r i) = a (ix3 0 r i) := fun i => by pointwise
  have hd : ∀ k : Fin 128, (FloatOps.sitofp .f32
        (matmulI8 IntMxuNumerics.v7x dot_S2000x10000_S10000x128_S2000x128_1_0_0_1_n_n
          (extsi 8 (shapeCast S2000x10000 a shapeCasts_S1x2000x10000_S2000x10000) natLt_4_8) (extsi 8 s natLt_4_8)
          (constantI S2000x128 32 0#32) (ix2 r k)) : Ideal .f32)
      = asE (∑ i : Fin 10000, BitVec.toInt (a (ix3 0 r i)) * BitVec.toInt (s (ix2 i k))) := fun k => by
    refine (congrArg asE (dot2 (shapeCast S2000x10000 a shapeCasts_S1x2000x10000_S2000x10000) s r k)).trans ?_
    simp only [ha]
  pointwise [k2_pay1]
  rw [hn]
  simp only [hd]
  rfl

theorem pay2_at (a : Vec Ideal S1x2000x10000 .i4) (s : Vec Ideal S10000x128 .i4) (b : Vec Ideal S1x128 .f32) (j : S2000x128.Idx) :
    k2_pay1 (F := Ideal) a s b j = Cert.Net.logSoftmax (score2 a s b (j 0)) (j 1) := by
  conv_lhs => rw [eq_ix2 j]
  exact pay2 a s b (j 0) (j 1)

end Cert.KernelIdeal.Hand

end
-- ==== Proof.Region2.lean ====
/- The third call: its array holds every node's log-softmax row. -/
module

public import proofs.«01_k».proof.Proof.Block2

@[expose] public section

set_option maxRecDepth 16384

noncomputable section

namespace Cert.KernelIdeal.Hand

open Cert.KernelIdeal Cert.KernelIdeal.Gen Cert.Codes
open Idealize.ShloMosaic Idealize.ShloMosaic.TcCoe

variable (V : (c : Dev nD) → (b : Ref sig .tc) → Buf (Elt Ideal) ((c.tc : Thread nD τ).loc b))

theorem idx2 : ∀ t : Fin cfg2.N, win2_0.index t = ![t.val, 0, 0] ∧ win2_1.index t = ![0, 0] ∧ win2_2.index t = ![0, 0]
    ∧ win2_3.index t = ![t.val, 0] :=
  (by decide +kernel : ∀ t : Fin grid2.N, _)

/-- The block of 2000 rows that row `r` lies in, and its place there. -/
def blockOf (r : Fin 10000) : Fin 5 := ⟨r.val / 2000, by omega⟩
def placeOf (r : Fin 10000) : Fin 2000 := ⟨r.val % 2000, by omega⟩

/-- The scores of node `r`, from the arrays the call reads. -/
def scores (a : Vec Ideal S5x2000x10000 .i4) (s : Vec Ideal S10000x128 .i4) (b : Vec Ideal S1x128 .f32) (r : Fin 10000) (l : Fin 128) :
    EReal :=
  asE (∑ i : Fin 10000, BitVec.toInt (a (ix3 (blockOf r) (placeOf r) i)) * BitVec.toInt (s (ix2 i l))) * ((1 / 4480000 : ℝ) : EReal)
    + b (ix2 0 l)

theorem arr2 (c : Dev nD) :
    (dat2 (F := Ideal) V c).arrAt 3 cfg2.N
      = fun i : S10000x128.Idx => Cert.Net.logSoftmax (scores (V c main_v7) (V c main_v6) (V c main_v1) (i 0)) (i 1) := by
  refine (dat2 (F := Ideal) V c).arrAt_eq_of_covers 3 _ (by decide +kernel) fun t hf y => ?_
  blk_simp
  rw [after2_3]
  frame_out
  obtain ⟨h0, h1, h2, h3⟩ := idx2 t
  rw [pay2_at]
  unfold Cert.Net.logSoftmax Cert.Net.top score2 scores blockOf placeOf
  blk_point [iblk2, h0, h1, h2, h3]

end Cert.KernelIdeal.Hand

end
-- ==== Proof.Chain.lean ====
/- From one call to the next: what each call's arrays hold, read through the host's reshapes, down to the program's result. -/
module

public import proofs.«01_k».proof.Proof.Region0
public import proofs.«01_k».proof.Proof.Region1
public import proofs.«01_k».proof.Proof.Region2

@[expose] public section

set_option maxRecDepth 16384

noncomputable section

namespace Cert.KernelIdeal.Hand

open Cert.KernelIdeal Cert.KernelIdeal.Gen Cert.Codes
open Idealize.ShloMosaic Idealize.ShloMosaic.TcCoe

variable (m : (ℓ : Loc nD τ sig) → Buf (Elt Ideal) ℓ) (ρ : Dev nD → PrngReg) (c : Dev nD)

/-! The arrays the program is given. -/

abbrev gX : Cert.Net.Mat 10000 512 := m ((c.tc : Thread nD τ).loc main_arg0)
abbrev gA : Cert.Net.Mat 10000 10000 := m ((c.tc : Thread nD τ).loc main_arg1)
abbrev gW : Cert.Net.Mat 512 512 := m ((c.tc : Thread nD τ).loc main_arg2)
abbrev gb : Cert.Net.Row 512 := m ((c.tc : Thread nD τ).loc main_arg3)
abbrev gU : Cert.Net.Mat 512 128 := m ((c.tc : Thread nD τ).loc main_arg4)
abbrev gd : Cert.Net.Row 128 := m ((c.tc : Thread nD τ).loc main_arg5)

/-! What the second call reads. -/

theorem v4_read (r : Fin 10000) (k : Fin 512) :
    V3 m ρ c main_v4 (ix2 r k) = Ideal.fptosi 8 (Cert.Net.feat (gX m c) (gW m c) r k) := by
  have h : W2 m ρ c (Proc.devRef .tc main_v3) = fun i : S5x2000x512.Idx =>
      Ideal.fptosi 8 (Cert.Net.feat (gX m c) (gW m c) (row0 (i 0) (i 1)) (i 2)) := by
    refine (W2_arr m ρ c 2).trans ((arr0 (V1 m ρ) c).trans ?_)
    rw [show V1 m ρ c main_arg0 = gX m c from W1_args m ρ c main_arg0 (by decide),
      show V1 m ρ c main_arg2 = gW m c from W1_args m ρ c main_arg2 (by decide)]
  have e : V3 m ρ c main_v4 = shapeCast S10000x512 (W2 m ρ c (Proc.devRef .tc main_v3)) shapeCasts_S5x2000x512_S10000x512 := by
    change W3 m ρ c (Proc.devRef .tc main_v4) = _
    after_results; rfl
  rw [e, h]
  pointwise
  rw [show ∀ h h', row0 ⟨r.val / 2000, h⟩ ⟨r.val % 2000, h'⟩ = r from fun _ _ => Fin.ext (by simp only [row0]; omega)]

theorem v0_read (k : Fin 512) : V3 m ρ c main_v0 (ix2 0 k) = gb m c (ix1 k) := by
  have e : V3 m ρ c main_v0 = shapeCast S1x512 (gb m c) shapeCasts_S512_S1x512 := by
    refine (W3_of m ρ c main_v0 (by decide)).trans ((W2_of m ρ c main_v0 (by decide)).trans ?_)
    after_results; rfl
  rw [e]
  pointwise

theorem v2_read : V3 m ρ c main_v2 = gU m c := by
  refine (W3_of m ρ c main_v2 (by decide)).trans ((W2_of m ρ c main_v2 (by decide)).trans ?_)
  after_results
  rfl

theorem a1_read : V3 m ρ c main_arg1 = gA m c := W3_args m ρ c main_arg1 (by decide)

/-! What the third call reads. -/

theorem v1_read (l : Fin 128) : V5 m ρ c main_v1 (ix2 0 l) = gd m c (ix1 l) := by
  have e : V5 m ρ c main_v1 = shapeCast S1x128 (gd m c) shapeCasts_S128_S1x128 := by
    refine (W5_of m ρ c main_v1 (by decide)).trans ((W4_of m ρ c main_v1 (by decide)).trans
      ((W3_of m ρ c main_v1 (by decide)).trans ((W2_of m ρ c main_v1 (by decide)).trans ?_)))
    after_results; rfl
  rw [e]
  pointwise

theorem v7_read (r j : Fin 10000) :
    V5 m ρ c main_v7 (ix3 (blockOf r) (placeOf r) j) = Ideal.fptosi 4 (scaled4 (gA m c) r j) := by
  have h : W4 m ρ c (Proc.devRef .tc main_v5_1) = fun i : S25x400x10000.Idx =>
      Ideal.fptosi 4 (scaled4 (gA m c) (row1 (i 0) (i 1)) (i 2)) := by
    refine (W4_arr m ρ c 5).trans ((arr1_adj (V3 m ρ) c).trans ?_)
    rw [a1_read]
  have e : V5 m ρ c main_v7 = shapeCast S5x2000x10000 (W4 m ρ c (Proc.devRef .tc main_v5_1)) shapeCasts_S25x400x10000_S5x2000x10000 := by
    change W5 m ρ c (Proc.devRef .tc main_v7) = _
    after_results; rfl
  rw [e, h]
  pointwise
  rw [show ∀ h h', row1 ⟨(blockOf r).val * 5 + (placeOf r).val / 400, h⟩ ⟨(placeOf r).val % 400, h'⟩ = r from
    fun _ _ => Fin.ext (by simp only [row1, blockOf, placeOf]; omega)]

/-- The magnitudes that the second call adds up are those of layer 1's product. -/
theorem total1_read (r : Fin 10000) (k : Fin 512) :
    total1 (V3 m ρ c main_arg1) (V3 m ρ c main_v4) r k = Cert.Net.mag1 (gX m c) (gA m c) (gW m c) r k := by
  unfold total1 Cert.Net.mag1
  rw [a1_read]
  refine Finset.sum_congr rfl fun i _ => ?_
  rw [v4_read, toInt_fptosi8]
  rfl

/-- The features that it codes are layer 2's. -/
theorem feat1_read (r : Fin 10000) (l : Fin 128) :
    feat1 (V3 m ρ c main_arg1) (V3 m ρ c main_v4) (V3 m ρ c main_v0) (V3 m ρ c main_v2) r l
      = Cert.Net.feat2 (gX m c) (gA m c) (gW m c) (gb m c) (gU m c) r l := by
  unfold feat1 Cert.Net.feat2 Cert.Net.hidden Cert.Net.prod1
  rw [a1_read, v2_read]
  refine congrArg (· * _) (Finset.sum_congr rfl fun k _ => ?_)
  rw [v0_read]
  refine congrArg (fun n => max (asE n * _ + _) 0 * _) (Finset.sum_congr rfl fun i _ => ?_)
  rw [v4_read, toInt_fptosi8]
  rfl

theorem v6_read (h : ∀ r k, Cert.Net.mag1 (gX m c) (gA m c) (gW m c) r k < 2 ^ 24) (r : Fin 10000) (l : Fin 128) :
    BitVec.toInt (V5 m ρ c main_v6 (ix2 r l)) = Cert.Net.featCode2 (gX m c) (gA m c) (gW m c) (gb m c) (gU m c) r l := by
  have hw : W4 m ρ c (Proc.devRef .tc main_v5_0) = fun i : S25x400x128.Idx =>
      Ideal.fptosi 4 (min (Ideal.ofBits .f32 0x40E00000#32) (max (Ideal.ofBits .f32 0xC0E00000#32)
        (Cert.Net.feat2 (gX m c) (gA m c) (gW m c) (gb m c) (gU m c) (row1 (i 0) (i 1)) (i 2)))) := by
    refine (W4_arr m ρ c 4).trans ((arr1_feat (V3 m ρ) c fun r k => by rw [total1_read]; exact h r k).trans ?_)
    funext i
    exact congrArg (fun v => Ideal.fptosi 4 (min _ (max _ v))) (feat1_read m ρ c _ _)
  have e : V5 m ρ c main_v6 = shapeCast S10000x128 (W4 m ρ c (Proc.devRef .tc main_v5_0)) shapeCasts_S25x400x128_S10000x128 := by
    change W5 m ρ c (Proc.devRef .tc main_v6) = _
    after_results; rfl
  have hv : V5 m ρ c main_v6 (ix2 r l) = Ideal.fptosi 4 (min (Ideal.ofBits .f32 0x40E00000#32) (max (Ideal.ofBits .f32 0xC0E00000#32)
        (Cert.Net.feat2 (gX m c) (gA m c) (gW m c) (gb m c) (gU m c) r l))) := by
    rw [e, hw]
    pointwise
    rw [show ∀ h h', row1 ⟨r.val / 400, h⟩ ⟨r.val % 400, h'⟩ = r from fun _ _ => Fin.ext (by simp only [row1]; omega)]
  rw [hv, toInt_fptosi4, bits_7, bits_neg7, code_clip (by decide) (by decide) (by decide)]
  rfl

/-- The scores that the third call computes. -/
theorem scores_read (h : ∀ r k, Cert.Net.mag1 (gX m c) (gA m c) (gW m c) r k < 2 ^ 24) (r : Fin 10000) (l : Fin 128) :
    scores (V5 m ρ c main_v7) (V5 m ρ c main_v6) (V5 m ρ c main_v1) r l
      = Cert.Net.score (gX m c) (gA m c) (gW m c) (gb m c) (gU m c) (gd m c) r l := by
  unfold scores Cert.Net.score Cert.Net.prod2
  rw [v1_read]
  refine congrArg (fun n => asE n * _ + _) (Finset.sum_congr rfl fun j _ => ?_)
  rw [v7_read, v6_read m ρ c h, toInt_fptosi4]
  rfl

/-- The program's result: each node's log-softmax row. -/
theorem result (h : ∀ r k, Cert.Net.mag1 (gX m c) (gA m c) (gW m c) r k < 2 ^ 24) :
    W6 m ρ c (Proc.devRef .tc main_v8) = fun i : S10000x128.Idx =>
      Cert.Net.logSoftmax (Cert.Net.score (gX m c) (gA m c) (gW m c) (gb m c) (gU m c) (gd m c) (i 0)) (i 1) := by
  refine (W6_arr m ρ c 3).trans ((arr2 (V5 m ρ) c).trans ?_)
  funext i
  exact congrArg (fun v => Cert.Net.logSoftmax v (i 1)) (funext fun l => scores_read m ρ c h (i 0) l)

end Cert.KernelIdeal.Hand

end
-- ==== Proof.RefLayers.lean ====
/- What the reference computes, layer by layer, at an entry. -/
module

public import proofs.«01_k».proof.Proof.Gen.ReferenceIdeal.Read
public import proofs.«01_k».proof.Proof.Spec

@[expose] public section

set_option maxRecDepth 16384

noncomputable section

namespace Cert.ReferenceIdeal.Hand

open Cert.ReferenceIdeal Cert.ReferenceIdeal.Gen Cert.ReferenceIdeal.Read Cert.Codes
open Idealize.ShloMosaic Idealize.ShloMosaic.TcCoe

variable (X : Cert.Net.Mat 10000 512) (A : Cert.Net.Mat 10000 10000) (W : Cert.Net.Mat 512 512) (b : Cert.Net.Row 512)
  (U : Cert.Net.Mat 512 128) (d : Cert.Net.Row 128)

theorem adj1_at (r j : Fin 10000) : val_main_v4 (F := Ideal) A (ix2 r j) = asE (Cert.Net.adj1 A r j) := by
  pointwise [val_main_v4, val_main_v3, val_main_v2, val_main_call0_v4, val_main_call0_v3, val_main_call0_v2, val_main_call0_v1,
    val_main_call0_v0, val_main_cst_1, val_main_cst_0, val_main_v1, val_main_v0, val_main_cst]
  exact quantised bits_neg128 bits_127 (by decide) (by decide) (by decide) _

theorem feat_at (j : Fin 10000) (k : Fin 512) : val_main_v10 (F := Ideal) X W (ix2 j k) = asE (Cert.Net.featCode X W j k) := by
  pointwise [val_main_v10, val_main_v9, val_main_v8, val_main_call1_v4, val_main_call1_v3, val_main_call1_v2, val_main_call1_v1,
    val_main_call1_v0, val_main_cst_4, val_main_cst_3, val_main_v7, val_main_v6, val_main_cst_2, val_main_v5]
  exact quantised bits_neg128 bits_127 (by decide) (by decide) (by decide) _

theorem prod1_at (r : Fin 10000) (k : Fin 512) : val_main_v11 (F := Ideal) X A W (ix2 r k) = asE (Cert.Net.prod1 X A W r k) := by
  pointwise [val_main_v11]
  simp only [adj1_at, feat_at]
  unfold Cert.Net.prod1
  simp only [asE_sum, asE_mul]

theorem hidden_at (r : Fin 10000) (k : Fin 512) : val_main_v17 (F := Ideal) X A W b (ix2 r k) = Cert.Net.hidden X A W b r k := by
  pointwise [val_main_v17, val_main_v16, val_main_v15, val_main_v14, val_main_v13, val_main_v12, val_main_cst_5, val_main_call2_v0,
    val_main_call2_cst]
  rw [prod1_at, bits_40640000, ← asE_mul_inv _ (by norm_num)]
  rfl

theorem adj2_at (r j : Fin 10000) : val_main_v22 (F := Ideal) A (ix2 r j) = asE (Cert.Net.adj2 A r j) := by
  pointwise [val_main_v22, val_main_v21, val_main_v20, val_main_call3_v4, val_main_call3_v3, val_main_call3_v2, val_main_call3_v1,
    val_main_call3_v0, val_main_cst_8, val_main_cst_7, val_main_v19, val_main_v18, val_main_cst_6]
  exact quantised bits_neg8 bits_7 (by decide) (by decide) (by decide) _

theorem feat2_at (r : Fin 10000) (l : Fin 128) :
    val_main_v28 (F := Ideal) X A W b U (ix2 r l) = asE (Cert.Net.featCode2 X A W b U r l) := by
  pointwise [val_main_v28, val_main_v27, val_main_v26, val_main_call4_v4, val_main_call4_v3, val_main_call4_v2, val_main_call4_v1,
    val_main_call4_v0, val_main_cst_11, val_main_cst_10, val_main_v25, val_main_v24, val_main_cst_9, val_main_v23]
  simp only [hidden_at]
  exact quantised bits_neg7 bits_7 (by decide) (by decide) (by decide) _

theorem score_at (r : Fin 10000) (l : Fin 128) :
    val_main_v34 (F := Ideal) X A W b U d (ix2 r l) = Cert.Net.score X A W b U d r l := by
  pointwise [val_main_v34, val_main_v33, val_main_v32, val_main_v31, val_main_v30, val_main_cst_12, val_main_v29]
  simp only [adj2_at, feat2_at, ← asE_mul, ← asE_sum]
  rw [bits_4480000, ← asE_mul_inv _ (by norm_num)]
  rfl

theorem top_at (r : Fin 10000) :
    val_main_call5_v2 (F := Ideal) X A W b U d (ix1 r) = Cert.Net.top (Cert.Net.score X A W b U d r) := by
  pointwise [val_main_call5_v2, val_main_call5_v1, val_main_call5_cst_0, val_main_call5_v0, val_main_call5_cst]
  simp only [score_at]
  unfold Cert.Net.top
  rw [bits_neg_inf, max_bot_left]

theorem logSoftmax_at (r : Fin 10000) (l : Fin 128) :
    val_main_v35 (F := Ideal) X A W b U d (ix2 r l) = Cert.Net.logSoftmax (Cert.Net.score X A W b U d r) l := by
  pointwise [val_main_v35, val_main_call5_v10, val_main_call5_v9, val_main_call5_v8, val_main_call5_v7, val_main_call5_cst_1,
    val_main_call5_v6, val_main_call5_v5, val_main_call5_v4, val_main_call5_v3]
  simp only [score_at, top_at]
  rfl

end Cert.ReferenceIdeal.Hand

end
-- ==== Proof.Pre.lean ====
/- The precondition, read: the products in each entry of layer 1's integer product have magnitudes that total less than 2^24. -/
module

public import proofs.«01_k».proof.Proof.Gen.Pre_products_exact
public import proofs.«01_k».proof.Proof.Spec

@[expose] public section

set_option maxRecDepth 16384

noncomputable section

namespace Cert.Pre_products_exact.Hand

open Cert.Pre_products_exact Cert.Pre_products_exact.Gen Cert.Codes
open Idealize.ShloMosaic Idealize.ShloMosaic.TcCoe

/-- The magnitude of a value clipped, converted to a 32-bit integer and back: that of its code. -/
theorem magnitude (v : EReal) :
    (FloatOps.absf (F := Ideal) (φ := .f32) (FloatOps.sitofp .f32 (FloatOps.fptosi (F := Ideal) (φ := .f32) 32
      (min (id (constant (F := Ideal) S_ .f32 0x42FE0000#32) ix0) (max (id (constant (F := Ideal) S_ .f32 0xC3000000#32) ix0) v)))))
      = asE ((code (-128) 127 v).natAbs : ℤ) :=
  (congrArg (fun w => max w (-w)) (quantised bits_neg128 bits_127 (by decide) (by decide) (by decide) v)).trans (asE_abs _)

theorem mag1_lt (x0 : FVec Ideal S10000x512 .f32) (x1 : FVec Ideal S10000x10000 .f32) (x2 : FVec Ideal S512x512 .f32) (x3 : FVec Ideal S512 .f32)
    (x4 : FVec Ideal S512x128 .f32) (x5 : FVec Ideal S128 .f32) (x6 : FVec Ideal S10000x3333 .f32) (x7 : FVec Ideal S3333 .f32)
    (x8 : FVec Ideal S3333x10000 .f32) (x9 : FVec Ideal S10000 .f32)
    (h : fn (F := Ideal) x0 x1 x2 x3 x4 x5 x6 x7 x8 x9 = fun _ => 1#1) (r : Fin 10000) (k : Fin 512) :
    Cert.Net.mag1 x0 x1 x2 r k < 2 ^ 24 := by
  have h := congrFun h (ix2 r k)
  pointwise [fn, fn_clip, fn_clip_0] at h
  simp only [magnitude, ← asE_mul, ← asE_sum] at h
  rw [bits_2p24] at h
  have h' : asE _ < asE (2 ^ 24) := of_decide_eq_true ((BitVec.ofBool_eq_iff_eq (b := _) (b' := true)).1 h)
  rw [asE_lt] at h'
  unfold Cert.Net.mag1
  zify
  refine lt_of_eq_of_lt (Finset.sum_congr rfl fun j _ => ?_) h'
  rw [abs_mul, Int.natCast_natAbs, Int.natCast_natAbs]
  rfl

end Cert.Pre_products_exact.Hand

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_products_exact
public import proofs.«01_k».proof.Proof.KernelRun
public import proofs.«01_k».proof.Proof.Chain
public import proofs.«01_k».proof.Proof.RefLayers
public import proofs.«01_k».proof.Proof.Pre

@[expose] public section

noncomputable section

namespace Cert.Proof

open Idealize.ShloMosaic Idealize.SL.Sem

/-- The two named constants are admitted by the rule that names them. -/
theorem preserves : Cert.preserves_Kernel_KernelIdeal :=
  ⟨IdealRules.named_const.statement Cert.KernelIdeal.κ "inv_scale1" .f32 0x32D35DD3#32 ((1 / 40640000 : ℝ) : EReal) rfl,
   IdealRules.named_const.statement Cert.KernelIdeal.κ "inv_scale2" .f32 0x346FACAD#32 ((1 / 4480000 : ℝ) : EReal) rfl⟩

/-- The reference runs, its arguments end unchanged, and it has no semaphore. -/
theorem frame_ref : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The reference's result: each node's log-softmax row. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v35 m c = fun i : Cert.ReferenceIdeal.S10000x128.Idx =>
      Cert.Net.logSoftmax (Cert.Net.score (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5)) (i 0)) (i 1) := by
  rw [Cert.ReferenceIdeal.Read.val_main_v35_eq]
  funext i
  conv_lhs => rw [eq_ix2 i]
  exact Cert.ReferenceIdeal.Hand.logSoftmax_at _ _ _ _ _ _ (i 0) (i 1)

/-- The kernel and the reference end with equal results. -/
theorem equal_results : Cert.algebraic_KernelIdeal_ReferenceIdeal_pre_products_exact := by
  intro m g m' g' hpre hagree
  refine ⟨fun c => fun i => Cert.Net.logSoftmax (Cert.Net.score (Cert.KernelIdeal.Hand.gX m c) (Cert.KernelIdeal.Hand.gA m c)
    (Cert.KernelIdeal.Hand.gW m c) (Cert.KernelIdeal.Hand.gb m c) (Cert.KernelIdeal.Hand.gU m c) (Cert.KernelIdeal.Hand.gd m c) (i 0)) (i 1),
    ?_, ?_⟩
  · refine (θ_run Cert.KernelIdeal.defs _ _).mono (fun r h c => ⟨(h c).1.trans ?_, (h c).2⟩) (Cert.KernelIdeal.Hand.run (F := Ideal) m g)
    exact Cert.KernelIdeal.Hand.result m g c fun r k => Cert.Pre_products_exact.Hand.mag1_lt _ _ _ _ _ _ _ _ _ _ (hpre c) r k
  · refine (θ_run Cert.ReferenceIdeal.defs _ _).mono (fun r h c => ⟨(h c).1.trans ?_, (h c).2⟩)
      (Cert.ReferenceIdeal.Value.run (F := Ideal) m' g')
    obtain ⟨a0, a1, a2, a3, a4, a5, -⟩ := hagree c
    rw [ref_result, a0, a1, a2, a3, a4, a5]
    rfl

theorem claim : Cert.Claim :=
  ⟨Cert.Kernel.Gen.facts, Cert.KernelIdeal.Gen.facts, Cert.ReferenceIdeal.Gen.facts, Cert.Pre_products_exact.Gen.facts,
    fun m g _ => Cert.Kernel.Gen.frame m g, fun m g _ => Cert.KernelIdeal.Gen.frame m g, fun m g _ => Cert.KernelIdeal.Gen.frame m g,
    frame_ref, fun m g _ => frame_ref m g trivial, preserves, equal_results⟩

end Cert.Proof

end
